-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routing_inputs_finite [hPre_routing_inputs_finite : Cert.Pre_routing_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_routing_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_routing_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routing_inputs_finite [hPre_routing_inputs_finite : Cert.Pre_routing_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routing_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_routing_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_routing_inputs_finite [hKernelIdeal : Cert.KernelIdeal.Facts] [hPre_routing_inputs_finite : Cert.Pre_routing_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routing_inputs_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_routing_inputs_finite [hReferenceIdeal : Cert.ReferenceIdeal.Facts] [hPre_routing_inputs_finite : Cert.Pre_routing_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routing_inputs_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_routing_inputs_finite [hKernelIdeal : Cert.KernelIdeal.Facts] [hReferenceIdeal : Cert.ReferenceIdeal.Facts] [hPre_routing_inputs_finite : Cert.Pre_routing_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routing_inputs_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_routing_inputs_finite : Cert.Pre_routing_inputs_finite.Facts),
    quiescent_Kernel (hKernel := hKernel)
    ∧ quiescent_KernelIdeal (hKernelIdeal := hKernelIdeal)
    ∧ quiescent_KernelIdeal_pre_routing_inputs_finite (hKernelIdeal := hKernelIdeal) (hPre_routing_inputs_finite := hPre_routing_inputs_finite)
    ∧ quiescent_ReferenceIdeal (hReferenceIdeal := hReferenceIdeal)
    ∧ quiescent_ReferenceIdeal_pre_routing_inputs_finite (hReferenceIdeal := hReferenceIdeal) (hPre_routing_inputs_finite := hPre_routing_inputs_finite)
    ∧ preserves_Kernel_KernelIdeal
    ∧ algebraic_KernelIdeal_ReferenceIdeal_pre_routing_inputs_finite (hKernelIdeal := hKernelIdeal) (hReferenceIdeal := hReferenceIdeal) (hPre_routing_inputs_finite := hPre_routing_inputs_finite)
-- ==== Pre_routing_inputs_finite.lean ====
abbrev S64x1024 : Shape := ⟨2, ![64, 1024]⟩
abbrev S16x1024 : Shape := ⟨2, ![16, 1024]⟩
abbrev S1x1024 : Shape := ⟨2, ![1, 1024]⟩
abbrev S16x1024x1408 : Shape := ⟨3, ![16, 1024, 1408]⟩
abbrev S16x1408x1024 : Shape := ⟨3, ![16, 1408, 1024]⟩
abbrev S1x1024x1408 : Shape := ⟨3, ![1, 1024, 1408]⟩
abbrev S1x1408x1024 : Shape := ⟨3, ![1, 1408, 1024]⟩
abbrev S_ : Shape := ⟨0, ![]⟩

class Facts : Prop where
  bcast_S_S64x1024 : S_.BroadcastsInDim S64x1024 (![] : Fin 0 → Fin S64x1024.rank)
  bcast_S_S16x1024 : S_.BroadcastsInDim S16x1024 (![] : Fin 0 → Fin S16x1024.rank)

variable [Facts]

def fn {F : FTy → Type} [FloatOps F] (main_arg0 : FVec F S64x1024 .f32) (main_arg1 : FVec F S16x1024 .f32) (main_arg2 : FVec F S1x1024 .f32) (main_arg3 : FVec F S16x1024x1408 .f32) (main_arg4 : FVec F S16x1024x1408 .f32) (main_arg5 : FVec F S16x1408x1024 .f32) (main_arg6 : FVec F S1x1024x1408 .f32) (main_arg7 : FVec F S1x1024x1408 .f32) (main_arg8 : FVec F S1x1408x1024 .f32) : IVec S64x1024 1 × IVec S16x1024 1 :=
  let main_v0 : FVec F S64x1024 .f32 := Host.absf main_arg0
  let main_cst : FVec F S_ .f32 := constant S_ .f32 0x7F800000#32
  let main_v1 : FVec F S64x1024 .f32 := broadcastInDim S64x1024 ![] bcast_S_S64x1024 main_cst
  let main_v2 : IVec S64x1024 1 := cmpf .olt main_v0 main_v1
  let main_v3 : FVec F S16x1024 .f32 := Host.absf main_arg1
  let main_cst_0 : FVec F S_ .f32 := constant S_ .f32 0x7F800000#32
  let main_v4 : FVec F S16x1024 .f32 := broadcastInDim S16x1024 ![] bcast_S_S16x1024 main_cst_0
  let main_v5 : IVec S16x1024 1 := cmpf .olt main_v3 main_v4
  (main_v2, main_v5)
-- ==== Kernel.lean ====
abbrev S64x1024 : Shape := ⟨2, ![64, 1024]⟩
abbrev S16x1024 : Shape := ⟨2, ![16, 1024]⟩
abbrev S1x1024 : Shape := ⟨2, ![1, 1024]⟩
abbrev S16x1024x1408 : Shape := ⟨3, ![16, 1024, 1408]⟩
abbrev S16x1408x1024 : Shape := ⟨3, ![16, 1408, 1024]⟩
abbrev S1x1024x1408 : Shape := ⟨3, ![1, 1024, 1408]⟩
abbrev S1x1408x1024 : Shape := ⟨3, ![1, 1408, 1024]⟩
abbrev S_ : Shape := ⟨0, ![]⟩
abbrev S7x1024 : Shape := ⟨2, ![7, 1024]⟩
abbrev S24x1024 : Shape := ⟨2, ![24, 1024]⟩
abbrev S64x128 : Shape := ⟨2, ![64, 128]⟩
abbrev S64x24 : Shape := ⟨2, ![64, 24]⟩
abbrev S64x16 : Shape := ⟨2, ![64, 16]⟩
abbrev S64 : Shape := ⟨1, ![64]⟩
abbrev S64x1 : Shape := ⟨2, ![64, 1]⟩
abbrev S1024x1408 : Shape := ⟨2, ![1024, 1408]⟩
abbrev S64x1408 : Shape := ⟨2, ![64, 1408]⟩
abbrev S1408x1024 : Shape := ⟨2, ![1408, 1024]⟩

abbrev nBuf : Space → Nat
  | .hbm => 13
  | .vmem => 13
  | .smem => 0
  | _ => 0

abbrev bufTy : (tb : Table) → Fin (tcTables nBuf tb) → BufTy
  | .hbm, ⟨0, _⟩ => ⟨S64x1024, .f32⟩
  | .hbm, ⟨1, _⟩ => ⟨S16x1024, .f32⟩
  | .hbm, ⟨2, _⟩ => ⟨S1x1024, .f32⟩
  | .hbm, ⟨3, _⟩ => ⟨S16x1024x1408, .f32⟩
  | .hbm, ⟨4, _⟩ => ⟨S16x1024x1408, .f32⟩
  | .hbm, ⟨5, _⟩ => ⟨S16x1408x1024, .f32⟩
  | .hbm, ⟨6, _⟩ => ⟨S1x1024x1408, .f32⟩
  | .hbm, ⟨7, _⟩ => ⟨S1x1024x1408, .f32⟩
  | .hbm, ⟨8, _⟩ => ⟨S1x1408x1024, .f32⟩
  | .hbm, ⟨9, _⟩ => ⟨S_, .f32⟩
  | .hbm, ⟨10, _⟩ => ⟨S7x1024, .f32⟩
  | .hbm, ⟨11, _⟩ => ⟨S24x1024, .f32⟩
  | .hbm, ⟨12, _⟩ => ⟨S64x1024, .f32⟩
  | .local _ .vmem, ⟨0, _⟩ => ⟨S64x1024, .f32⟩
  | .local _ .vmem, ⟨1, _⟩ => ⟨S24x1024, .f32⟩
  | .local _ .vmem, ⟨2, _⟩ => ⟨S1x1024x1408, .f32⟩
  | .local _ .vmem, ⟨3, _⟩ => ⟨S1x1024x1408, .f32⟩
  | .local _ .vmem, ⟨4, _⟩ => ⟨S1x1024x1408, .f32⟩
  | .local _ .vmem, ⟨5, _⟩ => ⟨S1x1024x1408, .f32⟩
  | .local _ .vmem, ⟨6, _⟩ => ⟨S1x1408x1024, .f32⟩
  | .local _ .vmem, ⟨7, _⟩ => ⟨S1x1408x1024, .f32⟩
  | .local _ .vmem, ⟨8, _⟩ => ⟨S1x1024x1408, .f32⟩
  | .local _ .vmem, ⟨9, _⟩ => ⟨S1x1024x1408, .f32⟩
  | .local _ .vmem, ⟨10, _⟩ => ⟨S1x1408x1024, .f32⟩
  | .local _ .vmem, ⟨11, _⟩ => ⟨S64x1024, .f32⟩
  | .local _ .vmem, ⟨12, _⟩ => ⟨S64x128, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S24x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1408x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1408x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S64x1024 : Shape := ⟨2, ![64, 1024]⟩
abbrev S16x1024 : Shape := ⟨2, ![16, 1024]⟩
abbrev S1x1024 : Shape := ⟨2, ![1, 1024]⟩
abbrev S16x1024x1408 : Shape := ⟨3, ![16, 1024, 1408]⟩
abbrev S16x1408x1024 : Shape := ⟨3, ![16, 1408, 1024]⟩
abbrev S1x1024x1408 : Shape := ⟨3, ![1, 1024, 1408]⟩
abbrev S1x1408x1024 : Shape := ⟨3, ![1, 1408, 1024]⟩
abbrev S1x1408x64 : Shape := ⟨3, ![1, 1408, 64]⟩
abbrev S1x64x1408 : Shape := ⟨3, ![1, 64, 1408]⟩
abbrev S_ : Shape := ⟨0, ![]⟩
abbrev S1024x1 : Shape := ⟨2, ![1024, 1]⟩
abbrev S64x1 : Shape := ⟨2, ![64, 1]⟩
abbrev S1024x16 : Shape := ⟨2, ![1024, 16]⟩
abbrev S64x16 : Shape := ⟨2, ![64, 16]⟩
abbrev S64 : Shape := ⟨1, ![64]⟩
abbrev S64x2 : Shape := ⟨2, ![64, 2]⟩
abbrev S64x2x1 : Shape := ⟨3, ![64, 2, 1]⟩
abbrev S1x1x16 : Shape := ⟨3, ![1, 1, 16]⟩
abbrev S64x2x16 : Shape := ⟨3, ![64, 2, 16]⟩
abbrev S16x1408x64 : Shape := ⟨3, ![16, 1408, 64]⟩
abbrev S16x64x1408 : Shape := ⟨3, ![16, 64, 1408]⟩
abbrev S16x64x1024 : Shape := ⟨3, ![16, 64, 1024]⟩

abbrev nBuf : Space → Nat
  | .hbm => 90
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S16x1024, .f32⟩
  | .hbm, ⟨2, _⟩ => ⟨S1x1024, .f32⟩
  | .hbm, ⟨3, _⟩ => ⟨S16x1024x1408, .f32⟩
  | .hbm, ⟨4, _⟩ => ⟨S16x1024x1408, .f32⟩
  | .hbm, ⟨5, _⟩ => ⟨S16x1408x1024, .f32⟩
  | .hbm, ⟨6, _⟩ => ⟨S1x1024x1408, .f32⟩
  | .hbm, ⟨7, _⟩ => ⟨S1x1024x1408, .f32⟩
  | .hbm, ⟨8, _⟩ => ⟨S1x1408x1024, .f32⟩
  | .hbm, ⟨9, _⟩ => ⟨S1x1408x64, .f32⟩
  | .hbm, ⟨10, _⟩ => ⟨S1x64x1408, .f32⟩
  | .hbm, ⟨11, _⟩ => ⟨S1x1408x64, .f32⟩
  | .hbm, ⟨12, _⟩ => ⟨S1x64x1408, .f32⟩
  | .hbm, ⟨13, _⟩ => ⟨S1x64x1408, .f32⟩
  | .hbm, ⟨14, _⟩ => ⟨S1x64x1408, .f32⟩
  | .hbm, ⟨15, _⟩ => ⟨S_, .f32⟩
  | .hbm, ⟨16, _⟩ => ⟨S1x64x1408, .f32⟩
  | .hbm, ⟨17, _⟩ => ⟨S1x64x1408, .f32⟩
  | .hbm, ⟨18, _⟩ => ⟨S_, .f32⟩
  | .hbm, ⟨19, _⟩ => ⟨S1x64x1408, .f32⟩
  | .hbm, ⟨20, _⟩ => ⟨S1x64x1408, .f32⟩
  | .hbm, ⟨21, _⟩ => ⟨S1x64x1408, .f32⟩
  | .hbm, ⟨22, _⟩ => ⟨S1x64x1408, .f32⟩
  | .hbm, ⟨23, _⟩ => ⟨S64x1024, .f32⟩
  | .hbm, ⟨24, _⟩ => ⟨S1024x1, .f32⟩
  | .hbm, ⟨25, _⟩ => ⟨S64x1, .f32⟩
  | .hbm, ⟨26, _⟩ => ⟨S64x1, .f32⟩
  | .hbm, ⟨27, _⟩ => ⟨S64x1, .f32⟩
  | .hbm, ⟨28, _⟩ => ⟨S_, .f32⟩
  | .hbm, ⟨29, _⟩ => ⟨S64x1, .f32⟩
  | .hbm, ⟨30, _⟩ => ⟨S64x1, .f32⟩
  | .hbm, ⟨31, _⟩ => ⟨S_, .f32⟩
  | .hbm, ⟨32, _⟩ => ⟨S64x1, .f32⟩
  | .hbm, ⟨33, _⟩ => ⟨S64x1, .f32⟩
  | .hbm, ⟨34, _⟩ => ⟨S1024x16, .f32⟩
  | .hbm, ⟨35, _⟩ => ⟨S64x16, .f32⟩
  | .hbm, ⟨36, _⟩ => ⟨S_, .f32⟩
  | .hbm, ⟨37, _⟩ => ⟨S64, .f32⟩
  | .hbm, ⟨38, _⟩ => ⟨S_, .f32⟩
  | .hbm, ⟨39, _⟩ => ⟨S64, .f32⟩
  | .hbm, ⟨40, _⟩ => ⟨S64, .f32⟩
  | .hbm, ⟨41, _⟩ => ⟨S64x1, .f32⟩
  | .hbm, ⟨42, _⟩ => ⟨S64x16, .f32⟩
  | .hbm, ⟨43, _⟩ => ⟨S64x16, .f32⟩
  | .hbm, ⟨44, _⟩ => ⟨S64x16, .f32⟩
  | .hbm, ⟨45, _⟩ => ⟨S_, .f32⟩
  | .hbm, ⟨46, _⟩ => ⟨S64, .f32⟩
  | .hbm, ⟨47, _⟩ => ⟨S64x1, .f32⟩
  | .hbm, ⟨48, _⟩ => ⟨S64x16, .f32⟩
  | .hbm, ⟨49, _⟩ => ⟨S64x16, .f32⟩
  | .hbm, ⟨50, _⟩ => ⟨S64x2, .f32⟩
  | .hbm, ⟨51, _⟩ => ⟨S64x2, .i32⟩
  | .hbm, ⟨52, _⟩ => ⟨S_, .f32⟩
  | .hbm, ⟨53, _⟩ => ⟨S64, .f32⟩
  | .hbm, ⟨54, _⟩ => ⟨S64x1, .f32⟩
  | .hbm, ⟨55, _⟩ => ⟨S64x2, .f32⟩
  | .hbm, ⟨56, _⟩ => ⟨S64x2, .f32⟩
  | .hbm, ⟨57, _⟩ => ⟨S64x2x1, .i32⟩
  | .hbm, ⟨58, _⟩ => ⟨S1x1x16, .i32⟩
  | .hbm, ⟨59, _⟩ => ⟨S64x2x16, .i32⟩
  | .hbm, ⟨60, _⟩ => ⟨S64x2x16, .i32⟩
  | .hbm, ⟨61, _⟩ => ⟨S64x2x16, .i1⟩
  | .hbm, ⟨62, _⟩ => ⟨S64x2x16, .f32⟩
  | .hbm, ⟨63, _⟩ => ⟨S64x2x1, .f32⟩
  | .hbm, ⟨64, _⟩ => ⟨S64x2x16, .f32⟩
  | .hbm, ⟨65, _⟩ => ⟨S64x2x16, .f32⟩
  | .hbm, ⟨66, _⟩ => ⟨S_, .f32⟩
  | .hbm, ⟨67, _⟩ => ⟨S64x16, .f32⟩
  | .hbm, ⟨68, _⟩ => ⟨S16x1408x64, .f32⟩
  | .hbm, ⟨69, _⟩ => ⟨S16x64x1408, .f32⟩
  | .hbm, ⟨70, _⟩ => ⟨S16x1408x64, .f32⟩
  | .hbm, ⟨71, _⟩ => ⟨S16x64x1408, .f32⟩
  | .hbm, ⟨72, _⟩ => ⟨S16x64x1408, .f32⟩
  | .hbm, ⟨73, _⟩ => ⟨S16x64x1408, .f32⟩
  | .hbm, ⟨74, _⟩ => ⟨S_, .f32⟩
  | .hbm, ⟨75, _⟩ => ⟨S16x64x1408, .f32⟩
  | .hbm, ⟨76, _⟩ => ⟨S16x64x1408, .f32⟩
  | .hbm, ⟨77, _⟩ => ⟨S_, .f32⟩
  | .hbm, ⟨78, _⟩ => ⟨S16x64x1408, .f32⟩
  | .hbm, ⟨79, _⟩ => ⟨S16x64x1408, .f32⟩
  | .hbm, ⟨80, _⟩ => ⟨S16x64x1408, .f32⟩
  | .hbm, ⟨81, _⟩ => ⟨S16x64x1408, .f32⟩
  | .hbm, ⟨82, _⟩ => ⟨S16x64x1024, .f32⟩
  | .hbm, ⟨83, _⟩ => ⟨S64x1024, .f32⟩
  | .hbm, ⟨84, _⟩ => ⟨S64x1024, .f32⟩
  | .hbm, ⟨85, _⟩ => ⟨S64x1024, .f32⟩
  | .hbm, ⟨86, _⟩ => ⟨S64x1024, .f32⟩
  | .hbm, ⟨87, _⟩ => ⟨S_, .f32⟩
  | .hbm, ⟨88, _⟩ => ⟨S64x1024, .f32⟩
  | .hbm, ⟨89, _⟩ => ⟨S64x1024, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_cst_0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_1 : Ref sig .tc := ⟨.hbm, 36, rfl⟩
abbrev main_v17 : Ref sig .tc := ⟨.hbm, 37, rfl⟩
abbrev main_cst_2 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_3 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_values : Ref sig .tc := ⟨.hbm, 50, rfl⟩
abbrev main_indices : Ref sig .tc := ⟨.hbm, 51, rfl⟩
abbrev main_cst_4 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_5 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_call2_v0 : Ref sig .tc := ⟨.hbm, 72, rfl⟩
abbrev main_call2_v1 : Ref sig .tc := ⟨.hbm, 73, rfl⟩
abbrev main_call2_cst : Ref sig .tc := ⟨.hbm, 74, rfl⟩
abbrev main_call2_v2 : Ref sig .tc := ⟨.hbm, 75, rfl⟩
abbrev main_call2_v3 : Ref sig .tc := ⟨.hbm, 76, rfl⟩
abbrev main_call2_cst_0 : Ref sig .tc := ⟨.hbm, 77, rfl⟩
abbrev main_call2_v4 : Ref sig .tc := ⟨.hbm, 78, rfl⟩
abbrev main_call2_v5 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_cst_6 : Ref sig .tc := ⟨.hbm, 87, rfl⟩
abbrev main_v48 : Ref sig .tc := ⟨.hbm, 88, rfl⟩
abbrev main_v49 : Ref sig .tc := ⟨.hbm, 89, rfl⟩

abbrev nD : Nat := 1
abbrev τ : Topo := Topo.v7x

variable {F : FTy → Type} [FloatOps F]
-- ==== Proof.Selection.lean ====
/-
  The two greatest entries of a finite family, equal entries in the order of their positions: what "first" and "second"
  mean, that they exist and are unique, that a strictly monotone change of the entries keeps them, and that the stable
  descending sort puts them at its first two positions.
-/
module

public import Idealize.ShloMosaic.Lib.SortPrefix
public import Mathlib.Data.EReal.Basic
public import Mathlib.Data.Fintype.Lattice
public import Mathlib.Data.Prod.Lex

@[expose] public section

namespace Cert.Selection

open Idealize.ShloMosaic

/-- Position `p` holds the greatest entry, and of the positions that do it is the first. -/
def IsFirst {n : Nat} (l : Fin n → EReal) (p : Fin n) : Prop :=
  ∀ j, j ≠ p → l j < l p ∨ (l j = l p ∧ p < j)

/-- Position `q` holds the greatest entry among the positions other than `p`, and of those that do it is the first. -/
def IsSecond {n : Nat} (l : Fin n → EReal) (p q : Fin n) : Prop :=
  q ≠ p ∧ ∀ j, j ≠ p → j ≠ q → l j < l q ∨ (l j = l q ∧ q < j)

/-- Every nonempty family has a first position. -/
theorem exists_isFirst {n : Nat} (l : Fin (n + 1) → EReal) : ∃ p, IsFirst l p := by
  obtain ⟨p, hp⟩ := Finite.exists_max fun j : Fin (n + 1) => toLex (l j, OrderDual.toDual j)
  refine ⟨p, fun j hj => ?_⟩
  rcases Prod.Lex.toLex_le_toLex.mp (hp j) with h | ⟨h, h'⟩
  · exact Or.inl h
  · exact Or.inr ⟨h, lt_of_le_of_ne (OrderDual.toDual_le_toDual.mp h') (Ne.symm hj)⟩

/-- Every family of at least two entries has a second position beside any `p`. -/
theorem exists_isSecond {n : Nat} (l : Fin (n + 2) → EReal) (p : Fin (n + 2)) : ∃ q, IsSecond l p q := by
  have hne : Nonempty {j : Fin (n + 2) // j ≠ p} := by
    by_cases h : p = 0
    · exact ⟨⟨1, by rw [h]; exact Fin.ne_of_gt (by simp [Fin.lt_def])⟩⟩
    · exact ⟨⟨0, Ne.symm h⟩⟩
  obtain ⟨q, hq⟩ := Finite.exists_max fun j : {j : Fin (n + 2) // j ≠ p} => toLex (l j.1, OrderDual.toDual j.1)
  refine ⟨q.1, q.2, fun j hj hjq => ?_⟩
  rcases Prod.Lex.toLex_le_toLex.mp (hq ⟨j, hj⟩) with h | ⟨h, h'⟩
  · exact Or.inl h
  · exact Or.inr ⟨h, lt_of_le_of_ne (OrderDual.toDual_le_toDual.mp h') (Ne.symm hjq)⟩

/-- The first position holds an entry that is at least every other. -/
theorem IsFirst.le {n : Nat} {l : Fin n → EReal} {p : Fin n} (h : IsFirst l p) (j : Fin n) : l j ≤ l p := by
  by_cases e : j = p
  · rw [e]
  · rcases h j e with h | h
    · exact h.le
    · exact h.1.le

/-- The maximum of a family is its entry at the first position. -/
theorem IsFirst.fold_max {n : Nat} {l : Fin n → EReal} {p : Fin n} (h : IsFirst l p) :
    Finset.univ.fold max ⊥ l = l p := by
  apply le_antisymm
  · rw [Finset.fold_max_le]; exact ⟨bot_le, fun j _ => h.le j⟩
  · rw [Finset.le_fold_max]; exact Or.inr ⟨p, Finset.mem_univ _, le_rfl⟩

/-- The first position is at most every position that holds the same entry. -/
theorem IsFirst.pos_le {n : Nat} {l : Fin n → EReal} {p : Fin n} (h : IsFirst l p) {j : Fin n} (e : l j = l p) : p ≤ j := by
  by_cases hj : j = p
  · rw [hj]
  · rcases h j hj with h | h
    · exact absurd e h.ne
    · exact h.2.le

/-- With the entry at `p` replaced by one below all others, the second position becomes the first. -/
theorem IsSecond.isFirst_masked {n : Nat} {l m : Fin n → EReal} {p q : Fin n} (h : IsSecond l p q)
    (hm : ∀ j, j ≠ p → m j = l j) (hp : m p < m q) : IsFirst m q := by
  intro j hj
  by_cases e : j = p
  · rw [e]; exact Or.inl hp
  · rw [hm j e, hm q h.1]; exact h.2 j e hj

/-- A family whose entries are ordered alike has the same first position. -/
theorem IsFirst.of_order {n : Nat} {l m : Fin n → EReal} {p : Fin n} (h : IsFirst l p)
    (hlt : ∀ i j, l i < l j → m i < m j) (heq : ∀ i j, l i = l j → m i = m j) : IsFirst m p := fun j hj =>
  (h j hj).imp (hlt _ _) fun e => ⟨heq _ _ e.1, e.2⟩

/-- A family whose entries are ordered alike has the same second position. -/
theorem IsSecond.of_order {n : Nat} {l m : Fin n → EReal} {p q : Fin n} (h : IsSecond l p q)
    (hlt : ∀ i j, l i < l j → m i < m j) (heq : ∀ i j, l i = l j → m i = m j) : IsSecond m p q :=
  ⟨h.1, fun j hj hq => (h.2 j hj hq).imp (hlt _ _) fun e => ⟨heq _ _ e.1, e.2⟩⟩

/-- Insertion sorts of a list in ascending order by two relations agree when the relations agree wherever the first
    position is the greater: the sort only ever asks whether a later position goes before an earlier one. -/
theorem stableSort_congr_of_ascending {n : Nat} (R R' : Fin n → Fin n → Bool) (h : ∀ a b, a < b → R b a = R' b a) :
    ∀ l : List (Fin n), l.Pairwise (· < ·) → stableSort R l = stableSort R' l
  | [], _ => rfl
  | a :: l, hl => by
    rw [List.pairwise_cons] at hl
    unfold stableSort
    rw [stableSort_congr_of_ascending R R' h l hl.2]
    exact insertBefore_congr R R' a _ fun b hb => h a b (hl.1 b ((perm_stableSort R' l).mem_iff.mp hb))

/-- "Greater, or equal and earlier". -/
noncomputable def before {n : Nat} (l : Fin n → EReal) (a b : Fin n) : Bool :=
  decide (l b < l a) || (decide (l a = l b) && decide (a < b))

/-- "Greater, or equal and earlier" is a strict total order on the positions. -/
theorem before_strictTotal {n : Nat} (l : Fin n → EReal) : StrictTotalBefore (before l) :=
  StrictTotalBefore.of_key_then_position (fun a b : EReal => decide (b < a)) l (fun a => by simp)
    (fun a b c hab hbc => by
      simp only [decide_eq_true_eq] at hab hbc ⊢
      exact hbc.trans hab)
    (fun a b => by
      simp only [decide_eq_true_eq]
      rcases lt_trichotomy a b with h | h | h
      · exact Or.inr (Or.inr h)
      · exact Or.inr (Or.inl h)
      · exact Or.inl h)

/-- The stable descending sort of a family takes its first two positions from the first and the second position. -/
theorem sortedFrom_first_second {n : Nat} (l : Fin n → EReal) (gt : Fin n → Fin n → Bool)
    (hgt : ∀ a b, gt a b = decide (l b < l a)) {p q : Fin n} (hp : IsFirst l p) (hq : IsSecond l p q) (hn : 2 ≤ n) (i : Fin 2) :
    sortedFrom gt (i.castLE hn) = (![p, q] : Fin 2 → Fin n) i := by
  have hsort : sortedFrom gt = sortedFrom (before l) := by
    funext k
    unfold sortedFrom
    have e : sortPositions n gt = sortPositions n (before l) :=
      stableSort_congr_of_ascending _ _ (fun a b hab => by
        unfold before
        rw [hgt]
        simp [not_lt.mpr hab.le]) _ (List.pairwise_lt_finRange n)
    rw [List.get_of_eq e]
    rfl
  have hpq : ∀ j, j ≠ p → before l j p = false := fun j hj => by
    unfold before
    rcases hp j hj with h | ⟨h, h'⟩
    · simp [h.le, h.ne]
    · simp [h, h'.le]
  have hqj : ∀ j, j ≠ p → j ≠ q → before l j q = false := fun j hj hj' => by
    unfold before
    rcases hq.2 j hj hj' with h | ⟨h, h'⟩
    · simp [h.le, h.ne]
    · simp [h, h'.le]
  rw [hsort]
  refine (before_strictTotal l).sortedFrom_eq_of_prefix hn ![p, q] ?_ ?_ ?_ i
  · intro i j hij
    fin_cases i <;> fin_cases j <;> simp_all [hq.1, Ne.symm hq.1]
  · intro i j hij
    fin_cases i <;> fin_cases j <;> simp_all [hq.1]
  · intro i r hr
    have h0 : r ≠ p := fun e => hr 0 e.symm
    have h1 : r ≠ q := fun e => hr 1 e.symm
    fin_cases i
    · exact hpq r h0
    · exact hqj r h0 h1

end Cert.Selection
-- ==== Proof.Layer.lean ====
/-
  The layer's mathematics over the extended reals, written once for the kernel and the reference: the gated feed-forward
  block of one expert, and the law that lets a weight be applied before the last product instead of after it.
-/
module

public import proofs.«01_k».proof.Proof.Selection
public import Idealize.ShloMosaic.Lib.Pointwise

@[expose] public section

set_option maxRecDepth 16384

noncomputable section

namespace Cert.Layer

open Idealize.ShloMosaic

/-- A matrix of `a` rows and `b` columns. -/
abbrev Mat (a b : ℕ) : Type := (⟨2, ![a, b]⟩ : Shape).Idx → EReal

/-- A stack of `a` matrices, each of `b` rows and `c` columns. -/
abbrev Stack (a b c : ℕ) : Type := (⟨3, ![a, b, c]⟩ : Shape).Idx → EReal

/-- The router's score of token `t` for row `e` of the router matrix: the inner product of the two rows. -/
def logit {n : ℕ} (x : Mat 64 1024) (r : Mat n 1024) (t : Fin 64) (e : Fin n) : EReal :=
  ∑ k, x (ix2 t k) * r (ix2 e k)

/-- Entry `f` of token `t` multiplied by matrix `e` of a stack. -/
def proj {n : ℕ} (x : Mat 64 1024) (w : Stack n 1024 1408) (e : Fin n) (t : Fin 64) (f : Fin 1408) : EReal :=
  ∑ k, x (ix2 t k) * w (ix3 e k f)

/-- The activation `z · σ(z)`. -/
def silu (z : EReal) : EReal := z * Ideal.logistic z

/-- Entry `f` of expert `e`'s hidden vector for token `t`: the activated gate times the up projection. -/
def hidden {n : ℕ} (x : Mat 64 1024) (g u : Stack n 1024 1408) (e : Fin n) (t : Fin 64) (f : Fin 1408) : EReal :=
  silu (proj x g e t f) * proj x u e t f

/-- Entry `d` of expert `e`'s output for token `t`. -/
def expert {n : ℕ} (x : Mat 64 1024) (g u : Stack n 1024 1408) (dn : Stack n 1408 1024) (e : Fin n) (t : Fin 64)
    (d : Fin 1024) : EReal :=
  ∑ f, hidden x g u e t f * dn (ix3 e f d)

/-- The same with the hidden vector multiplied by `w` before the last product. -/
def weighted {n : ℕ} (x : Mat 64 1024) (g u : Stack n 1024 1408) (dn : Stack n 1408 1024) (w : EReal) (e : Fin n)
    (t : Fin 64) (d : Fin 1024) : EReal :=
  ∑ f, hidden x g u e t f * w * dn (ix3 e f d)

/-- A weight that is not negative and not infinite distributes over any finite sum. -/
theorem mul_sum_of_weight {ι : Type*} (s : Finset ι) (f : ι → EReal) {w : EReal} (h0 : 0 ≤ w) (ht : w ≠ ⊤) :
    w * ∑ i ∈ s, f i = ∑ i ∈ s, w * f i := by
  classical
  induction s using Finset.induction_on with
  | empty => simp
  | insert a s ha ih =>
    rw [Finset.sum_insert ha, Finset.sum_insert ha, EReal.left_distrib_of_nonneg_of_ne_top h0 ht, ih]

/-- Weighting the hidden vector weights the output, for a weight that is not negative and not infinite: nothing is
    asked of the arrays. -/
theorem weighted_eq {n : ℕ} (x : Mat 64 1024) (g u : Stack n 1024 1408) (dn : Stack n 1408 1024) {w : EReal}
    (h0 : 0 ≤ w) (ht : w ≠ ⊤) (e : Fin n) (t : Fin 64) (d : Fin 1024) :
    weighted x g u dn w e t d = w * expert x g u dn e t d := by
  unfold weighted expert
  rw [mul_sum_of_weight _ _ h0 ht]
  exact Finset.sum_congr rfl fun f _ => by rw [mul_comm (hidden x g u e t f) w, mul_assoc]

/-- The logistic function is never negative. -/
theorem logistic_nonneg (z : EReal) : 0 ≤ Ideal.logistic z := by
  induction z with
  | bot => simp
  | top => simp
  | coe r => rw [Ideal.logistic_coe]; exact_mod_cast inv_nonneg.mpr (by positivity)

/-- The logistic function is never infinite. -/
theorem logistic_ne_top (z : EReal) : Ideal.logistic z ≠ ⊤ := by
  induction z with
  | bot => simp
  | top => rw [Ideal.logistic_top]; exact EReal.coe_ne_top 1
  | coe r => rw [Ideal.logistic_coe]; exact EReal.coe_ne_top _

/-! ## The two chosen experts -/

/-- The expert of the greatest score. -/
def best (l : Fin 16 → EReal) : Fin 16 := (Selection.exists_isFirst l).choose

/-- The expert of the greatest score among the others. -/
def runnerUp (l : Fin 16 → EReal) : Fin 16 := (Selection.exists_isSecond l (best l)).choose

theorem isFirst_best (l : Fin 16 → EReal) : Selection.IsFirst l (best l) := (Selection.exists_isFirst l).choose_spec

theorem isSecond_runnerUp (l : Fin 16 → EReal) : Selection.IsSecond l (best l) (runnerUp l) :=
  (Selection.exists_isSecond l (best l)).choose_spec

/-- The weight of expert `e`: the two chosen experts share 1 by the logistic function of their scores' difference, the
    others have 0. -/
def share (l : Fin 16 → EReal) (e : Fin 16) : EReal :=
  if e = best l then Ideal.logistic (l (best l) - l (runnerUp l))
  else if e = runnerUp l then Ideal.logistic (l (runnerUp l) - l (best l)) else 0

theorem share_nonneg (l : Fin 16 → EReal) (e : Fin 16) : 0 ≤ share l e := by
  unfold share
  split_ifs
  · exact logistic_nonneg _
  · exact logistic_nonneg _
  · exact le_rfl

theorem share_ne_top (l : Fin 16 → EReal) (e : Fin 16) : share l e ≠ ⊤ := by
  unfold share
  split_ifs
  · exact logistic_ne_top _
  · exact logistic_ne_top _
  · exact EReal.zero_ne_top

/-- The word of -∞ is the least extended real. -/
theorem negInf : Ideal.ofBits .f32 0xFF800000#32 = ⊥ := by simp [Ideal.ofBits, Ideal.ieee]

/-- The word of +∞ is the greatest extended real. -/
theorem posInf : Ideal.ofBits .f32 0x7F800000#32 = ⊤ := by simp [Ideal.ofBits, Ideal.ieee]

/-- The scale of the layer's output: the 32-bit float nearest to 1/√2. -/
def scale : EReal := Ideal.ofBits .f32 0x3F3504F3#32

/-- The scale as the rational that the word is. -/
theorem scale_eq : scale = ((11863283 / 16777216 : ℝ) : EReal) := by
  unfold scale
  simp [Ideal.ofBits, Ideal.ieee, -EReal.coe_mul]; norm_num

theorem scale_nonneg : 0 ≤ scale := by
  rw [scale_eq]; exact_mod_cast (by norm_num : (0 : ℝ) ≤ 11863283 / 16777216)

theorem scale_ne_top : scale ≠ ⊤ := by
  rw [scale_eq]; exact EReal.coe_ne_top _

/-- The product of two weights that are neither negative nor infinite is not infinite. -/
theorem mul_ne_top {v w : EReal} (hv : 0 ≤ v) (hv' : v ≠ ⊤) (hw : 0 ≤ w) (hw' : w ≠ ⊤) : v * w ≠ ⊤ := by
  lift v to ℝ using ⟨hv', fun h => by simp [h] at hv⟩
  lift w to ℝ using ⟨hw', fun h => by simp [h] at hw⟩
  exact EReal.coe_ne_top (v * w)

end Cert.Layer

end
-- ==== Proof.KernelRouter.lean ====
/-
  What the kernel's first grid point leaves in its scratch: for every token, the weight of each of the sixteen experts
  and of the shared expert. The two chosen experts are found by a maximum, the least position that holds it, and the
  same again with that position removed.
-/
module

public import proofs.«01_k».proof.Proof.Gen.KernelIdeal.Value
public import proofs.«01_k».proof.Proof.Layer
public import Idealize.ShloMosaic.Lib.Pointwise

@[expose] public section

set_option maxRecDepth 16384

noncomputable section

open Idealize.ShloMosaic Idealize.ShloMosaic.TcCoe Idealize.SL.Sem
open Cert.KernelIdeal Cert.KernelIdeal.Gen

namespace Cert.KernelRouter

/-! ## Least positions -/

/-- The signed minimum of two words, by their integers. -/
theorem minsi_eq (a b : BitVec 32) : IntOp.minsi a b = if a.toInt < b.toInt then a else b := by
  unfold IntOp.minsi; simp only [BitVec.slt, decide_eq_true_eq]

/-- The signed minimum of a family of words is the word `v` when some entry is `v` and neither an entry nor the start
    is below it. -/
theorem fold_minsi_eq {ι : Type*} [DecidableEq ι] (f : ι → BitVec 32) (v z : BitVec 32) (s : Finset ι)
    (hz : v.toInt ≤ z.toInt) (hle : ∀ j ∈ s, v.toInt ≤ (f j).toInt) (hv : ∃ j ∈ s, f j = v) :
    s.fold IntOp.minsi z f = v := by
  have key : ∀ s : Finset ι, (∀ j ∈ s, v.toInt ≤ (f j).toInt) → v.toInt ≤ (s.fold IntOp.minsi z f).toInt := by
    intro s
    induction s using Finset.induction_on with
    | empty => intro _; simpa using hz
    | insert a s ha ih =>
      intro h
      rw [Finset.fold_insert ha, minsi_eq]
      split_ifs
      · exact h a (Finset.mem_insert_self a s)
      · exact ih fun j hj => h j (Finset.mem_insert_of_mem hj)
  obtain ⟨j, hj, rfl⟩ := hv
  rw [← Finset.insert_erase hj, Finset.fold_insert (Finset.notMem_erase j s), minsi_eq]
  have := key (s.erase j) fun i hi => hle i (Finset.mem_of_mem_erase hi)
  split_ifs with h
  · rfl
  · exact BitVec.eq_of_toInt_eq (by omega)

/-- A position's word, as an integer, is the position. -/
theorem toInt_pos (p : Fin 16) : (BitVec.ofNat 32 p.val).toInt = p.val := by
  revert p; decide

/-- The least position at which a family holds its greatest entry: the signed minimum of the positions, with 16 in place
    of those that hold another entry. -/
theorem fold_position {l : Fin 16 → EReal} {p : Fin 16} (h : Selection.IsFirst l p) :
    Finset.univ.fold IntOp.minsi (2147483647#32) (fun j => if l j = l p then BitVec.ofNat 32 j.val else 16#32)
      = BitVec.ofNat 32 p.val := by
  refine fold_minsi_eq _ _ _ _ ?_ (fun j _ => ?_) ⟨p, Finset.mem_univ _, by simp⟩
  · rw [toInt_pos]; have := p.isLt; simp; omega
  · rw [toInt_pos]
    split_ifs with e
    · rw [toInt_pos]; exact_mod_cast h.pos_le e
    · have := p.isLt; simp

/-- A choice by the equality of two positions' words is a choice by the equality of the positions. -/
theorem select_word {α : Type} (a b : ℕ) (ha : a < 128) (hb : b < 128) (x y : α) :
    Scalar.select (IntOp.cmpi .eq (BitVec.ofNat 32 a) (BitVec.ofNat 32 b)) x y = if a = b then x else y := by
  by_cases h : a = b
  · simp [h, Scalar.select, IntOp.cmpi]
  · have h' : BitVec.ofNat 32 a ≠ BitVec.ofNat 32 b := fun e => h (by
      have := congrArg BitVec.toNat e
      simp only [BitVec.toNat_ofNat] at this
      omega)
    have h'' : (BitVec.ofNat 32 a == BitVec.ofNat 32 b) = false := beq_eq_false_iff_ne.mpr h'
    simp [h, h'', Scalar.select, IntOp.cmpi]

/-! ## The scores -/

/-- Row `t` of the product with the padded router matrix: the sixteen scores, the shared expert's score, and padding. -/
theorem pay2_apply (x : Vec Ideal S64x1024 .f32) (w : Vec Ideal S24x1024 .f32) (t : Fin 64) (e : Fin 24) :
    k0_pay2 x w (ix2 t e) = Layer.logit x w t e := by
  pointwise [k0_pay2]
  rfl

/-- The shared expert's weight before scaling: the logistic function of its score. -/
theorem pay3_apply (x : Vec Ideal S64x1024 .f32) (w : Vec Ideal S24x1024 .f32) (t : Fin 64) (e : Fin 1) :
    k0_pay3 x w (ix2 t e) = Ideal.logistic (Layer.logit x w t 16) := by
  pointwise [k0_pay3, pay2_apply]

/-- The sixteen scores of a token. -/
def scores (x : Vec Ideal S64x1024 .f32) (w : Vec Ideal S24x1024 .f32) (t : Fin 64) (e : Fin 16) : EReal :=
  k0_pay2 x w (ix2 t ⟨e.val, by omega⟩)

/-- The experts' weights before scaling, on the first sixteen lanes: the two chosen experts' shares, and 0 for the
    others. The scores are above -∞, which is what the removed position holds. -/
theorem pay4_apply (x : Vec Ideal S64x1024 .f32) (w : Vec Ideal S24x1024 .f32) (t : Fin 64)
    (hfin : ∀ e, ⊥ < scores x w t e) (j : Fin 128) :
    k0_pay4 x w (ix2 t j) = if h : j.val < 16 then Layer.share (scores x w t) ⟨j.val, h⟩ else 0 := by
  pointwise [k0_pay4]
  have h1 := Layer.isFirst_best (scores x w t)
  have h2 := Layer.isSecond_runnerUp (scores x w t)
  unfold Layer.share
  generalize Layer.best (scores x w t) = p at *
  generalize Layer.runnerUp (scores x w t) = q at *
  have h3 : Selection.IsFirst (fun e => if e = p then ⊥ else scores x w t e) q :=
    h2.isFirst_masked (fun i hi => if_neg hi) (by rw [if_pos rfl, if_neg h2.1]; exact hfin q)
  have f1 := h1.fold_max
  have f3 := h3.fold_max
  have g1 := fold_position h1
  have g3 := fold_position h3
  rw [if_neg h2.1] at f3
  simp only [if_neg h2.1] at g3
  have hs : ∀ (e : Fin 16) (h : e.val < 24), k0_pay2 x w (ix2 t ⟨e.val, h⟩) = scores x w t e := fun _ _ => rfl
  have hm : ∀ e : Fin 16, Scalar.select (IntOp.cmpi CmpIPredicate.eq (BitVec.ofNat 32 e.val) (BitVec.ofNat 32 p.val)) ⊥
      (scores x w t e) = if e = p then ⊥ else scores x w t e := fun e => by
    rw [select_word _ _ (by omega) (by omega)]
    simp only [Fin.ext_iff]
  simp only [Layer.negInf, hs]
  simp only [f1, g1]
  simp only [hm]
  simp only [f3, g3]
  rw [select_word _ _ (by omega) (by omega), select_word _ _ (by omega) (by omega)]
  have hpq : p.val ≠ q.val := fun e => h2.1 (Fin.ext e.symm)
  simp only [Fin.ext_iff]
  have hp := p.isLt
  have hq := q.isLt
  by_cases e1 : j.val = p.val
  · rw [if_pos e1, if_neg (by omega), dif_pos (by omega), if_pos e1, add_zero]
  · rw [if_neg e1, zero_add]
    by_cases e2 : j.val = q.val
    · rw [if_pos e2, dif_pos (by omega), if_neg e1]
    · rw [if_neg e2]
      split_ifs <;> rfl

/-- The scratch's entry: the experts' weights, the shared expert's weight on lane 16, all scaled. -/
theorem pay5_apply (x : FVec Ideal S64x1 .f32) (w : FVec Ideal S64x128 .f32) (t : Fin 64) (j : Fin 128) :
    k0_pay5 x (iota .tc S64x128 32 [1] iota_S64x128_d1_w32) w (ix2 t j)
      = (w (ix2 t j) + if j.val = 16 then x (ix2 t 0) else 0) * Layer.scale := by
  pointwise [k0_pay5]
  rw [show (16#32 : BitVec 32) = BitVec.ofNat 32 16 from rfl, select_word _ _ (by omega) (by omega)]
  rfl

/-! ## The scratch -/

/-- The scratch that the first grid point fills, from the hidden states and the padded router matrix. -/
def comb (x : Vec Ideal S64x1024 .f32) (w : Vec Ideal S24x1024 .f32) : FVec Ideal S64x128 .f32 :=
  k0_pay5 (k0_pay3 x w) (iota .tc S64x128 32 [1] iota_S64x128_d1_w32) (k0_pay4 x w)

/-- Lane `e` of the scratch, for an expert `e`: its share, scaled. -/
theorem comb_expert (x : Vec Ideal S64x1024 .f32) (w : Vec Ideal S24x1024 .f32) (t : Fin 64)
    (hfin : ∀ e, ⊥ < scores x w t e) (e : Fin 16) (h : e.val < 128) :
    comb x w (ix2 t ⟨e.val, h⟩) = Layer.share (scores x w t) e * Layer.scale := by
  unfold comb
  rw [pay5_apply, pay4_apply x w t hfin, dif_pos e.isLt, if_neg (by have := e.isLt; simp only; omega), add_zero]

/-- Lane 16 of the scratch: the shared expert's weight, scaled. -/
theorem comb_shared (x : Vec Ideal S64x1024 .f32) (w : Vec Ideal S24x1024 .f32) (t : Fin 64)
    (hfin : ∀ e, ⊥ < scores x w t e) :
    comb x w (ix2 t 16) = Ideal.logistic (Layer.logit x w t 16) * Layer.scale := by
  unfold comb
  rw [pay5_apply, pay4_apply x w t hfin, pay3_apply, dif_neg (by decide), if_pos (show (16 : Fin 128).val = 16 from rfl), zero_add]

end Cert.KernelRouter

end
-- ==== Proof.KernelStep.lean ====
/-
  What one grid point of the kernel adds to the result: the weighted output of one expert, and at the first point the
  weighted output of the shared expert too.
-/
module

public import proofs.«01_k».proof.Proof.KernelRouter

@[expose] public section

set_option maxRecDepth 16384

noncomputable section

open Idealize.ShloMosaic Idealize.ShloMosaic.TcCoe Idealize.SL.Sem
open Cert.KernelIdeal Cert.KernelIdeal.Gen

namespace Cert.KernelStep

/-- A sum over the lanes that keeps one lane is that lane's entry. -/
theorem lane_sum (v : Vec Ideal S64x128 .f32) (t : Fin 64) (n : ℕ) (hn : n < 128) :
    ∑ j : Fin 128, Scalar.select (IntOp.cmpi .eq (BitVec.ofNat 32 j.val) (BitVec.ofNat 32 n)) (v (ix2 t j)) (0 : EReal)
      = v (ix2 t ⟨n, hn⟩) := by
  rw [Finset.sum_eq_single (⟨n, hn⟩ : Fin 128)]
  · rw [KernelRouter.select_word _ _ hn hn, if_pos rfl]
  · intro j _ hj
    rw [KernelRouter.select_word _ _ j.isLt hn, if_neg fun e => hj (Fin.ext e)]
  · exact fun h => absurd (Finset.mem_univ _) h

/-- Each grid point adds the output of its expert, weighted by the expert's lane of the scratch. -/
theorem pay7_apply (i : grid0.Coords) (x : Vec Ideal S64x1024 .f32) (s : Vec Ideal S64x128 .f32)
    (g u : Vec Ideal S1x1024x1408 .f32) (acc : Vec Ideal S64x1024 .f32) (dn : Vec Ideal S1x1408x1024 .f32)
    (h : (i 0).val < 128) (t : Fin 64) (d : Fin 1024) :
    k0_pay7 i x s g u acc dn (ix2 t d) = acc (ix2 t d) + Layer.weighted x g u dn (s (ix2 t ⟨(i 0).val, h⟩)) 0 t d := by
  pointwise [k0_pay7]
  rw [lane_sum s t _ h]
  rfl

/-- The first grid point adds the shared expert's output, weighted by lane 16 of the scratch. -/
theorem pay1_apply (x : Vec Ideal S64x1024 .f32) (s : Vec Ideal S64x128 .f32)
    (g u : Vec Ideal S1x1024x1408 .f32) (acc : Vec Ideal S64x1024 .f32) (dn : Vec Ideal S1x1408x1024 .f32)
    (t : Fin 64) (d : Fin 1024) :
    k0_pay1 x (iota .tc S64x128 32 [1] iota_S64x128_d1_w32) s g u acc dn (ix2 t d)
      = acc (ix2 t d) + Layer.weighted x g u dn (s (ix2 t 16)) 0 t d := by
  pointwise [k0_pay1]
  rw [show (16#32 : BitVec 32) = BitVec.ofNat 32 16 from rfl, lane_sum s t 16 (by decide)]
  rfl

/-- The result starts at zero. -/
theorem pay6_apply (t : Fin 64) (d : Fin 1024) : (k0_pay6 : FVec Ideal S64x1024 .f32) (ix2 t d) = 0 := by
  pointwise [k0_pay6]

end Cert.KernelStep

end
-- ==== Proof.KernelBlocks.lean ====
/-
  The blocks that a grid point reads, as reads of the argument arrays.
-/
module

public import proofs.«01_k».proof.Proof.KernelStep
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Cert.KernelIdeal Cert.KernelIdeal.Gen

namespace Cert.KernelBlocks

variable (m : (ℓ : Loc nD τ sig) → Buf (Elt Ideal) ℓ) (c : Dev nD)

/-- Every window's block indices at a grid point: the experts' windows move with the point, the others stay. -/
theorem idx : ∀ t : Fin cfg0.N,
    (win0_0.index t 0 = 0 ∧ win0_0.index t 1 = 0) ∧ (win0_1.index t 0 = 0 ∧ win0_1.index t 1 = 0)
    ∧ (win0_2.index t 0 = t.val ∧ win0_2.index t 1 = 0 ∧ win0_2.index t 2 = 0)
    ∧ (win0_3.index t 0 = t.val ∧ win0_3.index t 1 = 0 ∧ win0_3.index t 2 = 0)
    ∧ (win0_4.index t 0 = t.val ∧ win0_4.index t 1 = 0 ∧ win0_4.index t 2 = 0)
    ∧ (win0_5.index t 0 = 0 ∧ win0_5.index t 1 = 0 ∧ win0_5.index t 2 = 0)
    ∧ (win0_6.index t 0 = 0 ∧ win0_6.index t 1 = 0 ∧ win0_6.index t 2 = 0)
    ∧ (win0_7.index t 0 = 0 ∧ win0_7.index t 1 = 0 ∧ win0_7.index t 2 = 0) :=
  (by decide +kernel : ∀ t : Fin grid0.N, _)

/-- The grid coordinate of a point is the point. -/
theorem coord : ∀ t : Fin cfg0.N, (grid0.coords t 0).val = t.val :=
  (by decide +kernel : ∀ t : Fin grid0.N, _)

/-- The hidden states are read whole at every point. -/
theorem blk_x (t : Fin cfg0.N) (a : Fin 64) (b : Fin 1024) :
    iblk m c 0 t (ix2 a b) = m ((c : Thread nD τ).loc main_arg0) (ix2 a b) := by
  have i := idx t
  blk_ext [iblk, V_main_arg0, i]

/-- Expert `t`'s gate matrix is read at point `t`. -/
theorem blk_gate (t : Fin cfg0.N) (h : t.val < 16) (z : Fin 1) (k : Fin 1024) (f : Fin 1408) :
    iblk m c 2 t (ix3 z k f) = m ((c : Thread nD τ).loc main_arg3) (ix3 ⟨t.val, h⟩ k f) := by
  have i := idx t
  blk_ext [iblk, V_main_arg3, i]

/-- Expert `t`'s up matrix is read at point `t`. -/
theorem blk_up (t : Fin cfg0.N) (h : t.val < 16) (z : Fin 1) (k : Fin 1024) (f : Fin 1408) :
    iblk m c 3 t (ix3 z k f) = m ((c : Thread nD τ).loc main_arg4) (ix3 ⟨t.val, h⟩ k f) := by
  have i := idx t
  blk_ext [iblk, V_main_arg4, i]

/-- Expert `t`'s down matrix is read at point `t`. -/
theorem blk_down (t : Fin cfg0.N) (h : t.val < 16) (z : Fin 1) (f : Fin 1408) (d : Fin 1024) :
    iblk m c 4 t (ix3 z f d) = m ((c : Thread nD τ).loc main_arg5) (ix3 ⟨t.val, h⟩ f d) := by
  have i := idx t
  blk_ext [iblk, V_main_arg5, i]

/-- The shared expert's gate matrix is read whole. -/
theorem blk_sgate (t : Fin cfg0.N) (z : Fin 1) (k : Fin 1024) (f : Fin 1408) :
    iblk m c 5 t (ix3 z k f) = m ((c : Thread nD τ).loc main_arg6) (ix3 z k f) := by
  have i := idx t
  blk_ext [iblk, V_main_arg6, i]

/-- The shared expert's up matrix is read whole. -/
theorem blk_sup (t : Fin cfg0.N) (z : Fin 1) (k : Fin 1024) (f : Fin 1408) :
    iblk m c 6 t (ix3 z k f) = m ((c : Thread nD τ).loc main_arg7) (ix3 z k f) := by
  have i := idx t
  blk_ext [iblk, V_main_arg7, i]

/-- The shared expert's down matrix is read whole. -/
theorem blk_sdown (t : Fin cfg0.N) (z : Fin 1) (f : Fin 1408) (d : Fin 1024) :
    iblk m c 7 t (ix3 z f d) = m ((c : Thread nD τ).loc main_arg8) (ix3 z f d) := by
  have i := idx t
  blk_ext [iblk, V_main_arg8, i]

/-- The padded router matrix is read whole at every point. -/
theorem blk_padded (t : Fin cfg0.N) (e : Fin 24) (k : Fin 1024) :
    iblk m c 1 t (ix2 e k) = V m c main_v1 (ix2 e k) := by
  have i := idx t
  have h : ((cfg0.win 1).blk t).view.emb (ix2 e k) = ix2 e k := by
    blk_ext [i]
  unfold iblk
  show V m c main_v1 (((cfg0.win 1).blk t).view.emb (ix2 e k)) = _
  rw [h]

/-- The padded router matrix: the router's sixteen rows, the shared expert's row, and seven rows of zeros. -/
theorem padded_eq : V m c main_v1 = concatenate S24x1024 0
    [⟨S16x1024, (m ((c : Thread nD τ).loc main_arg1) : S16x1024.Idx → EReal)⟩,
      ⟨S1x1024, (m ((c : Thread nD τ).loc main_arg2) : S1x1024.Idx → EReal)⟩,
      ⟨S7x1024, broadcastInDim S7x1024 ![] bcast_S_S7x1024 (constant (F := Ideal) S_ .f32 0x00000000#32)⟩]
    concatenates_S16x1024_S1x1024_S7x1024_S24x1024_d0 := by
  show StableHlo.after hostOps0 _ _ = _
  simp only [StableHlo.after_cons, StableHlo.after_nil]
  rw [StableHlo.nary_result]
  rfl

/-- Its rows below sixteen are the router's. -/
theorem blk_router (t : Fin cfg0.N) (e : Fin 16) (h : e.val < 24) (k : Fin 1024) :
    iblk m c 1 t (ix2 ⟨e.val, h⟩ k) = m ((c : Thread nD τ).loc main_arg1) (ix2 e k) := by
  rw [blk_padded, padded_eq]
  generalize (m ((c : Thread nD τ).loc main_arg1) : S16x1024.Idx → EReal) = r
  generalize (m ((c : Thread nD τ).loc main_arg2) : S1x1024.Idx → EReal) = s
  pointwise

/-- Its row sixteen is the shared expert's gate. -/
theorem blk_shared (t : Fin cfg0.N) (k : Fin 1024) :
    iblk m c 1 t (ix2 16 k) = m ((c : Thread nD τ).loc main_arg2) (ix2 0 k) := by
  rw [blk_padded, padded_eq]
  generalize (m ((c : Thread nD τ).loc main_arg1) : S16x1024.Idx → EReal) = r
  generalize (m ((c : Thread nD τ).loc main_arg2) : S1x1024.Idx → EReal) = s
  pointwise

end Cert.KernelBlocks

end
-- ==== Proof.KernelArray.lean ====
/-
  What the kernel's result array holds after the run: the sixteen experts' weighted outputs, added in the order of the
  grid's points, and the shared expert's.
-/
module

public import proofs.«01_k».proof.Proof.KernelBlocks
public import Idealize.ShloMosaic.Lib.Pipeline.ReadBack

@[expose] public section

set_option maxRecDepth 16384

noncomputable section

open Idealize.ShloMosaic Idealize.ShloMosaic.TcCoe Idealize.SL.Sem
open Cert.KernelIdeal Cert.KernelIdeal.Gen

namespace Cert.KernelArray

variable (m : (ℓ : Loc nD τ sig) → Buf (Elt Ideal) ℓ) (c : Dev nD)

/-! ## The arguments -/

/-- The hidden states. -/
abbrev hid : Layer.Mat 64 1024 := m ((c : Thread nD τ).loc main_arg0)
/-- The router matrix. -/
abbrev router : Layer.Mat 16 1024 := m ((c : Thread nD τ).loc main_arg1)
/-- The shared expert's gate row. -/
abbrev srow : Layer.Mat 1 1024 := m ((c : Thread nD τ).loc main_arg2)
/-- The experts' gate matrices. -/
abbrev gate : Layer.Stack 16 1024 1408 := m ((c : Thread nD τ).loc main_arg3)
/-- The experts' up matrices. -/
abbrev up : Layer.Stack 16 1024 1408 := m ((c : Thread nD τ).loc main_arg4)
/-- The experts' down matrices. -/
abbrev down : Layer.Stack 16 1408 1024 := m ((c : Thread nD τ).loc main_arg5)
/-- The shared expert's gate matrix. -/
abbrev sgate : Layer.Stack 1 1024 1408 := m ((c : Thread nD τ).loc main_arg6)
/-- The shared expert's up matrix. -/
abbrev sup : Layer.Stack 1 1024 1408 := m ((c : Thread nD τ).loc main_arg7)
/-- The shared expert's down matrix. -/
abbrev sdown : Layer.Stack 1 1408 1024 := m ((c : Thread nD τ).loc main_arg8)

/-! ## The blocks as the arguments -/

/-- The hidden states' block is the hidden states. -/
theorem x_eq (t : Fin cfg0.N) : (iblk m c 0 t : Layer.Mat 64 1024) = hid m c := by
  funext i
  rw [eq_ix2 i]
  exact KernelBlocks.blk_x m c t (i 0) (i 1)

/-- The padded router matrix, the same at every point. -/
abbrev padded : Layer.Mat 24 1024 := V m c main_v1

theorem w_eq (t : Fin cfg0.N) : (iblk m c 1 t : Layer.Mat 24 1024) = padded m c := by
  funext i
  rw [eq_ix2 i]
  exact KernelBlocks.blk_padded m c t (i 0) (i 1)

/-- A point's expert, read from its blocks, is the expert of the point's number. -/
theorem expert_blocks (t : Fin cfg0.N) (h : t.val < 16) (w : EReal) (b : Fin 64) (d : Fin 1024) :
    Layer.weighted (hid m c) (iblk m c 2 t : Layer.Stack 1 1024 1408) (iblk m c 3 t : Layer.Stack 1 1024 1408)
        (iblk m c 4 t : Layer.Stack 1 1408 1024) w 0 b d
      = Layer.weighted (hid m c) (gate m c) (up m c) (down m c) w ⟨t.val, h⟩ b d := by
  unfold Layer.weighted Layer.hidden Layer.proj
  simp only [KernelBlocks.blk_gate m c t h, KernelBlocks.blk_up m c t h, KernelBlocks.blk_down m c t h]

/-- The shared expert, read from its blocks. -/
theorem shared_blocks (t : Fin cfg0.N) (w : EReal) (b : Fin 64) (d : Fin 1024) :
    Layer.weighted (hid m c) (iblk m c 5 t : Layer.Stack 1 1024 1408) (iblk m c 6 t : Layer.Stack 1 1024 1408)
        (iblk m c 7 t : Layer.Stack 1 1408 1024) w 0 b d
      = Layer.weighted (hid m c) (sgate m c) (sup m c) (sdown m c) w 0 b d := by
  unfold Layer.weighted Layer.hidden Layer.proj
  simp only [KernelBlocks.blk_sgate, KernelBlocks.blk_sup, KernelBlocks.blk_sdown]

/-! ## The sum over the grid -/

/-- The scratch that the first point fills and every point reads. -/
abbrev weights : Vec Ideal S64x128 .f32 := KernelRouter.comb (hid m c) (padded m c)

/-- The output of expert `e`, weighted by its lane of the scratch. -/
def term (e : ℕ) (he : e < 16) (b : Fin 64) (d : Fin 1024) : EReal :=
  Layer.weighted (hid m c) (gate m c) (up m c) (down m c) (weights m c (ix2 b ⟨e, by omega⟩)) ⟨e, he⟩ b d

/-- The shared expert's output, weighted by lane 16 of the scratch. -/
def sharedTerm (b : Fin 64) (d : Fin 1024) : EReal :=
  Layer.weighted (hid m c) (sgate m c) (sup m c) (sdown m c) (weights m c (ix2 b 16)) 0 b d

/-- The first point fills the scratch, and leaves the first expert's and the shared expert's outputs. -/
theorem outs_first (hn : 0 < cfg0.N) :
    (outsAt0 m c 0 hn).2 = weights m c
    ∧ ∀ b d, (outsAt0 m c 0 hn).1 (ix2 b d) = term m c 0 (by decide) b d + sharedTerm m c b d := by
  have e : outsAt0 m c 0 hn = _ := outsAt0_A m c ⟨0, hn⟩ rfl rfl
  rw [e]
  frame_out
  refine ⟨?_, fun b d => ?_⟩
  · show KernelRouter.comb (iblk m c 0 ⟨0, hn⟩) (iblk m c 1 ⟨0, hn⟩) = _
    rw [x_eq, w_eq]
  · show k0_pay1 (F := Ideal) (iblk m c 0 ⟨0, hn⟩) _ (KernelRouter.comb (iblk m c 0 ⟨0, hn⟩) (iblk m c 1 ⟨0, hn⟩)) _ _
      (k0_pay7 (F := Ideal) _ _ (KernelRouter.comb (iblk m c 0 ⟨0, hn⟩) (iblk m c 1 ⟨0, hn⟩)) _ _ _ _) _ (ix2 b d) = _
    rw [x_eq, w_eq, KernelStep.pay1_apply, KernelStep.pay7_apply (h := by rw [KernelBlocks.coord]; show 0 < 128; omega),
      KernelStep.pay6_apply, zero_add, expert_blocks m c ⟨0, hn⟩ (show 0 < 16 by decide), shared_blocks]
    simp only [KernelBlocks.coord]
    rfl

/-- Every later point adds its expert's output and keeps the scratch. -/
theorem outs_next (n : ℕ) (hn : n + 1 < cfg0.N) (h16 : n + 1 < 16)
    (hs : (outsAt0 m c n (Nat.lt_of_succ_lt hn)).2 = weights m c) :
    (outsAt0 m c (n + 1) hn).2 = weights m c
    ∧ ∀ b d, (outsAt0 m c (n + 1) hn).1 (ix2 b d)
        = (outsAt0 m c n (Nat.lt_of_succ_lt hn)).1 (ix2 b d) + term m c (n + 1) h16 b d := by
  have h0 : ¬ (⟨n + 1, hn⟩ : Fin cfg0.N).val % 16 = 0 := by show ¬ (n + 1) % 16 = 0; omega
  have e : outsAt0 m c (n + 1) hn = _ := outsAt0_B m c ⟨n + 1, hn⟩ h0 h0
  rw [e]
  frame_out
  simp only [read_unread_whole]
  refine ⟨hs, fun b d => ?_⟩
  show k0_pay7 (F := Ideal) _ (iblk m c 0 ⟨n + 1, hn⟩) (outsAt0 m c n _).2 _ _ (outsAt0 m c n _).1 _ (ix2 b d) = _
  rw [hs, x_eq, KernelStep.pay7_apply (h := by rw [KernelBlocks.coord]; show n + 1 < 128; omega),
    expert_blocks m c ⟨n + 1, hn⟩ h16]
  simp only [KernelBlocks.coord]
  rfl

/-- After point `n` the result holds the shared expert's output and the experts' up to `n`, and the scratch is kept. -/
theorem outs_eq (n : ℕ) (hn : n < cfg0.N) (h16 : n < 16) :
    (outsAt0 m c n hn).2 = weights m c
    ∧ ∀ b d, (outsAt0 m c n hn).1 (ix2 b d)
        = ∑ e : Fin (n + 1), term m c e.val (by omega) b d + sharedTerm m c b d := by
  induction n with
  | zero =>
    obtain ⟨h1, h2⟩ := outs_first m c hn
    exact ⟨h1, fun b d => by rw [h2, Fin.sum_univ_one]; rfl⟩
  | succ n ih =>
    obtain ⟨i1, i2⟩ := ih (Nat.lt_of_succ_lt hn) (Nat.lt_of_succ_lt h16)
    obtain ⟨h1, h2⟩ := outs_next m c n hn h16 i1
    refine ⟨h1, fun b d => ?_⟩
    rw [h2, i2, add_right_comm, Fin.sum_univ_castSucc fun e : Fin (n + 1 + 1) => term m c e.val (by omega) b d]
    rfl

/-- The result array after the run. -/
theorem array_eq (b : Fin 64) (d : Fin 1024) :
    Value.G8 m c (ix2 b d) = ∑ e : Fin 16, term m c e.val e.isLt b d + sharedTerm m c b d := by
  have hN : (15 : ℕ) < cfg0.N := lt_of_lt_of_eq (by decide) N_0.symm
  have h : Value.G8 m c = (outsAt0 m c 15 hN).1 := by
    rw [Value.G8_last, Value.outsAt0_sweep]
  rw [h]
  exact (outs_eq m c 15 hN (by decide)).2 b d

/-! ## The weights -/

/-- The scores that the kernel reads from the padded product are the router's. -/
theorem scores_eq (b : Fin 64) : KernelRouter.scores (hid m c) (padded m c) b = Layer.logit (hid m c) (router m c) b := by
  funext e
  unfold KernelRouter.scores
  rw [KernelRouter.pay2_apply]
  refine Finset.sum_congr rfl fun k _ => ?_
  rw [← w_eq m c ⟨0, lt_of_lt_of_eq (by decide) N_0.symm⟩, KernelBlocks.blk_router]

/-- The shared expert's score. -/
theorem sharedScore_eq (b : Fin 64) : Layer.logit (hid m c) (padded m c) b 16 = Layer.logit (hid m c) (srow m c) b 0 := by
  refine Finset.sum_congr rfl fun k _ => ?_
  rw [← w_eq m c ⟨0, lt_of_lt_of_eq (by decide) N_0.symm⟩, KernelBlocks.blk_shared]

/-- The result array after the run, over scores above -∞: every expert's output weighted by its share and the shared
    expert's by the logistic function of its score, all scaled, and the weights applied before the last product. -/
theorem array_value (b : Fin 64) (d : Fin 1024) (hfin : ∀ e, ⊥ < Layer.logit (hid m c) (router m c) b e) :
    Value.G8 m c (ix2 b d)
      = ∑ e : Fin 16, Layer.weighted (hid m c) (gate m c) (up m c) (down m c)
          (Layer.share (Layer.logit (hid m c) (router m c) b) e * Layer.scale) e b d
        + Layer.weighted (hid m c) (sgate m c) (sup m c) (sdown m c)
          (Ideal.logistic (Layer.logit (hid m c) (srow m c) b 0) * Layer.scale) 0 b d := by
  rw [← scores_eq] at hfin
  rw [array_eq]
  congr 1
  · refine Finset.sum_congr rfl fun e _ => ?_
    unfold term
    rw [show weights m c (ix2 b ⟨e.val, by omega⟩) = _ from KernelRouter.comb_expert _ _ b hfin e (by omega), scores_eq]
  · unfold sharedTerm
    rw [show weights m c (ix2 b 16) = _ from KernelRouter.comb_shared _ _ b hfin, sharedScore_eq]

end Cert.KernelArray

end
-- ==== Proof.ReferenceExperts.lean ====
/-
  What the reference computes for the experts: the shared expert's output and its gate, the routed experts' hidden
  vectors, and the sum that combines them.
-/
module

public import proofs.«01_k».proof.Proof.Gen.ReferenceIdeal.Read
public import proofs.«01_k».proof.Proof.Layer
public import Idealize.ShloMosaic.Lib.Pointwise

@[expose] public section

set_option maxRecDepth 16384

noncomputable section

open Idealize.ShloMosaic Idealize.ShloMosaic.TcCoe Idealize.SL.Sem
open Cert.ReferenceIdeal Cert.ReferenceIdeal.Read

namespace Cert.ReferenceExperts

variable (x : (⟨S64x1024, .f32⟩ : BufTy).Contents (Elt Ideal)) (r : (⟨S16x1024, .f32⟩ : BufTy).Contents (Elt Ideal))
variable (s : (⟨S1x1024, .f32⟩ : BufTy).Contents (Elt Ideal))
variable (g u : (⟨S16x1024x1408, .f32⟩ : BufTy).Contents (Elt Ideal)) (dn : (⟨S16x1408x1024, .f32⟩ : BufTy).Contents (Elt Ideal))
variable (sg su : (⟨S1x1024x1408, .f32⟩ : BufTy).Contents (Elt Ideal)) (sdn : (⟨S1x1408x1024, .f32⟩ : BufTy).Contents (Elt Ideal))

/-- A projection with the factors of each product exchanged. -/
theorem proj_comm {n : ℕ} (x : Layer.Mat 64 1024) (w : Layer.Stack n 1024 1408) (e : Fin n) (b : Fin 64) (f : Fin 1408) :
    ∑ k, w (ix3 e k f) * x (ix2 b k) = Layer.proj x w e b f :=
  Finset.sum_congr rfl fun _ _ => mul_comm _ _

/-- The shared expert's hidden vector. -/
theorem shared_hidden (b : Fin 64) (f : Fin 1408) :
    val_main_v5 (F := Ideal) x sg su (ix3 0 b f) = Layer.hidden x sg su 0 b f := by
  unfold Layer.hidden Layer.silu Ideal.logistic
  rw [← proj_comm, ← proj_comm]
  pointwise [val_main_v5, val_main_v4, val_main_v3, val_main_v2, val_main_v1, val_main_v0, val_main_call0_v5,
    val_main_call0_v4, val_main_call0_v3, val_main_call0_v2, val_main_call0_v1, val_main_call0_v0, val_main_call0_cst,
    val_main_call0_cst_0]

/-- The shared expert's output. -/
theorem shared_expert (b : Fin 64) (d : Fin 1024) :
    val_main_v6 (F := Ideal) x sg su sdn (ix2 b d) = Layer.expert x sg su sdn 0 b d := by
  have h : val_main_v6 (F := Ideal) x sg su sdn (ix2 b d)
      = ∑ f : Fin 1408, ∑ z : Fin 1, val_main_v5 (F := Ideal) x sg su (ix3 z b f) * sdn (ix3 z f d) := by
    pointwise [val_main_v6]
  rw [h]
  refine Finset.sum_congr rfl fun f _ => ?_
  rw [Fin.sum_univ_one, shared_hidden]

/-- The shared expert's gate. -/
theorem shared_gate (b : Fin 64) :
    val_main_v14 (F := Ideal) x s (ix2 b 0) = Ideal.logistic (Layer.logit x s b 0) := by
  unfold Layer.logit Ideal.logistic
  pointwise [val_main_v14, val_main_v13, val_main_v12, val_main_v11, val_main_v10, val_main_v9, val_main_v8, val_main_v7,
    val_main_cst, val_main_cst_0]

/-- A routed expert's hidden vector. -/
theorem routed_hidden (e : Fin 16) (b : Fin 64) (f : Fin 1408) :
    val_main_v42 (F := Ideal) x g u (ix3 e b f) = Layer.hidden x g u e b f := by
  unfold Layer.hidden Layer.silu Ideal.logistic
  rw [← proj_comm, ← proj_comm]
  pointwise [val_main_v42, val_main_v41, val_main_v40, val_main_v39, val_main_v38, val_main_v37, val_main_call2_v5,
    val_main_call2_v4, val_main_call2_v3, val_main_call2_v2, val_main_call2_v1, val_main_call2_v0, val_main_call2_cst,
    val_main_call2_cst_0]

/-- The result: the experts' outputs combined by the router's weights, the shared expert's by its gate, all scaled. -/
theorem result_apply (b : Fin 64) (d : Fin 1024) :
    val_main_v49 (F := Ideal) x r s g u dn sg su sdn (ix2 b d)
      = (∑ e : Fin 16, val_main_v36 (F := Ideal) x r (ix2 b e) * Layer.expert x g u dn e b d
          + Ideal.logistic (Layer.logit x s b 0) * Layer.expert x sg su sdn 0 b d) * Layer.scale := by
  rw [← shared_gate, ← shared_expert]
  unfold Layer.expert Layer.scale
  simp only [← routed_hidden]
  pointwise [val_main_v49, val_main_v48, val_main_v47, val_main_v46, val_main_v45, val_main_v44, val_main_v43, val_main_cst_6]

end Cert.ReferenceExperts

end
-- ==== Proof.RouterMath.lean ====
/-
  The router's arithmetic over finite scores: the normalized exponentials are ordered as the scores are, and two of them,
  divided by their sum, are the logistic function of the scores' difference.
-/
module

public import proofs.«01_k».proof.Proof.Layer

@[expose] public section

set_option maxRecDepth 16384

noncomputable section

namespace Cert.RouterMath

open Idealize.ShloMosaic

/-- The normalized exponential of entry `e`, each score taken less the greatest. -/
def soft (l : Fin 16 → EReal) (e : Fin 16) : EReal :=
  Ideal.div (Ideal.exp (l e - l (Layer.best l))) (∑ j, Ideal.exp (l j - l (Layer.best l)))

/-- The quotient of two reals, the second not zero. -/
theorem div_real (a : ℝ) {b : ℝ} (hb : b ≠ 0) : Ideal.div (a : EReal) (b : EReal) = ((a / b : ℝ) : EReal) := by
  rw [Ideal.div_coe hb, ← EReal.coe_mul, mul_one_div]

/-- A finite sum of reals. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

variable {l : Fin 16 → EReal} {r : Fin 16 → ℝ} (hl : ∀ e, l e = (r e : EReal))
include hl

/-- Over finite scores the normalized exponentials are positive multiples, by one factor, of the scores' exponentials. -/
theorem soft_eq : ∃ z : ℝ, 0 < z ∧ ∀ e, soft l e = ((Real.exp (r e) * z : ℝ) : EReal) := by
  set p := Layer.best l with hp
  have hZ : 0 < ∑ j, Real.exp (r j - r p) := Finset.sum_pos (fun j _ => Real.exp_pos _) ⟨0, Finset.mem_univ _⟩
  have he : ∀ e, Ideal.exp (l e - l p) = ((Real.exp (r e - r p) : ℝ) : EReal) := fun e => by
    rw [hl, hl, ← EReal.coe_sub]; rfl
  refine ⟨Real.exp (-r p) * (∑ j, Real.exp (r j - r p))⁻¹, by positivity, fun e => ?_⟩
  unfold soft
  rw [← hp, Finset.sum_congr rfl fun j _ => he j, coe_sum, he, div_real _ hZ.ne', sub_eq_add_neg, Real.exp_add,
    div_eq_mul_inv, mul_assoc]

/-- A greater score has a greater normalized exponential. -/
theorem soft_lt (i j : Fin 16) (h : l i < l j) : soft l i < soft l j := by
  obtain ⟨z, hz, e⟩ := soft_eq hl
  rw [hl, hl, EReal.coe_lt_coe_iff] at h
  rw [e, e, EReal.coe_lt_coe_iff]
  exact mul_lt_mul_of_pos_right (Real.exp_lt_exp.mpr h) hz

omit hl in
/-- Equal scores have equal normalized exponentials. -/
theorem soft_congr (i j : Fin 16) (h : l i = l j) : soft l i = soft l j := by unfold soft; rw [h]

/-- A normalized exponential divided by its sum with another is the logistic function of the scores' difference. -/
theorem soft_div (i j : Fin 16) : Ideal.div (soft l i) (soft l i + soft l j) = Ideal.logistic (l i - l j) := by
  obtain ⟨z, hz, e⟩ := soft_eq hl
  have hi := Real.exp_pos (r i)
  have hj := Real.exp_pos (r j)
  rw [e, e, ← EReal.coe_add, div_real _ (by positivity), hl, hl, ← EReal.coe_sub, Ideal.logistic_coe]
  congr 1
  rw [neg_sub, Real.exp_sub]
  field_simp

/-- The first position of the scores is the normalized exponentials'. -/
theorem isFirst_soft : Selection.IsFirst (soft l) (Layer.best l) :=
  (Layer.isFirst_best l).of_order (soft_lt hl) soft_congr

/-- The second position of the scores is the normalized exponentials'. -/
theorem isSecond_soft : Selection.IsSecond (soft l) (Layer.best l) (Layer.runnerUp l) :=
  (Layer.isSecond_runnerUp l).of_order (soft_lt hl) soft_congr

end Cert.RouterMath

end
-- ==== Proof.ReferenceRouter.lean ====
/-
  What the reference computes for the router: the normalized exponentials of a token's scores, the two greatest of them
  with their positions, and the weight each expert gets.
-/
module

public import proofs.«01_k».proof.Proof.Gen.ReferenceIdeal.Read
public import proofs.«01_k».proof.Proof.RouterMath
public import Idealize.ShloMosaic.Lib.Pointwise

@[expose] public section

set_option maxRecDepth 16384

noncomputable section

open Idealize.ShloMosaic Idealize.ShloMosaic.TcCoe Idealize.SL.Sem
open Cert.ReferenceIdeal Cert.ReferenceIdeal.Gen Cert.ReferenceIdeal.Read

namespace Cert.ReferenceRouter

/-- Moving along the columns of a matrix. -/
theorem along_col {a n : ℕ} (i : Fin a) (j k : Fin n) :
    (ix2 i j : (⟨2, ![a, n]⟩ : Shape).Idx).along 1 k = ix2 i k := by
  funext d
  fin_cases d <;> rfl

/-- A stable sort of the rows of two matrices together, by the sorted order of the row's positions. -/
theorem sort_apply {α β : Type} {a n : ℕ} (cmp : α × β → α × β → BitVec 1) (v : (⟨2, ![a, n]⟩ : Shape).Idx → α)
    (w : (⟨2, ![a, n]⟩ : Shape).Idx → β) (b : Fin a) (j : Fin n) :
    (Host.sort2 ⟨2, ![a, n]⟩ 1 cmp v w).1 (ix2 b j)
        = v (ix2 b (sortedFrom (fun k k' => cmp (v (ix2 b k), w (ix2 b k)) (v (ix2 b k'), w (ix2 b k')) == 1#1) j))
    ∧ (Host.sort2 ⟨2, ![a, n]⟩ 1 cmp v w).2 (ix2 b j)
        = w (ix2 b (sortedFrom (fun k k' => cmp (v (ix2 b k), w (ix2 b k)) (v (ix2 b k'), w (ix2 b k')) == 1#1) j)) := by
  have hd : 1 < (⟨2, ![a, n]⟩ : Shape).rank := Nat.one_lt_two
  have h : ∀ k : Fin n, (ix2 b j : (⟨2, ![a, n]⟩ : Shape).Idx).along (⟨1, hd⟩ : Fin 2) k = ix2 b k := along_col b j
  unfold Host.sort2
  rw [dif_pos hd]
  refine ⟨(congrArg v (h _)).trans (congrArg (fun s => v (ix2 b (sortedFrom s j))) ?_),
    (congrArg w (h _)).trans (congrArg (fun s => w (ix2 b (sortedFrom s j))) ?_)⟩ <;>
  · funext k k'
    exact congrArg₂ (fun i i' => cmp (v i, w i) (v i', w i') == 1#1) (h k) (h k')

/-- The two greatest entries of a row, with their positions, of a row with first position `p` and second `q`. -/
theorem topK_apply (v : Layer.Mat 64 16) (b : Fin 64) {p q : Fin 16}
    (hp : Selection.IsFirst (fun e => v (ix2 b e)) p) (hq : Selection.IsSecond (fun e => v (ix2 b e)) p q) (k : Fin 2) :
    (Host.topK (s := S64x16) S64x2 1 (FloatOps.cmpfTotal (F := Ideal) (φ := .f32) .gt) v sliceFits_S64x16_S64x2).1 (ix2 b k)
        = v (ix2 b ((![p, q] : Fin 2 → Fin 16) k))
    ∧ (Host.topK (s := S64x16) S64x2 1 (FloatOps.cmpfTotal (F := Ideal) (φ := .f32) .gt) v sliceFits_S64x16_S64x2).2 (ix2 b k)
        = BitVec.ofNat 32 ((![p, q] : Fin 2 → Fin 16) k).val := by
  have key := Selection.sortedFrom_first_second (fun e => v (ix2 b e))
    (fun i j => FloatOps.cmpfTotal (F := Ideal) (φ := .f32) .gt (v (ix2 b i)) (v (ix2 b j)) == 1#1)
    (fun i j => by
      show (BitVec.ofBool (decide (v (ix2 b j) < v (ix2 b i))) == 1#1) = _
      by_cases h : v (ix2 b j) < v (ix2 b i) <;> simp [h]) hp hq (by decide) k
  have hrow : ∀ (h1 : S64x16.rank = S64x2.rank) (h2 : ∀ a, 0 + ((ix2 b k : S64x2.Idx) (Fin.cast h1 a)).val < S64x16.size a),
      (fun a => ⟨0 + ((ix2 b k : S64x2.Idx) (Fin.cast h1 a)).val, h2 a⟩ : S64x16.Idx)
      = ix2 b (k.castLE (by decide)) := by
    intro h1 h2
    funext a
    apply Fin.ext
    fin_cases a <;> exact Nat.zero_add _
  rw [← key]
  unfold Host.topK
  simp only [extractStridedSlice, hrow]
  refine ⟨(sort_apply _ v _ b (k.castLE (by decide))).1, (sort_apply _ v _ b (k.castLE (by decide))).2.trans ?_⟩
  rfl

variable (x : (⟨S64x1024, .f32⟩ : BufTy).Contents (Elt Ideal)) (r : (⟨S16x1024, .f32⟩ : BufTy).Contents (Elt Ideal))

/-- The normalized exponentials of the scores. -/
theorem soft_apply (b : Fin 64) (e : Fin 16) :
    val_main_v27 (F := Ideal) x r (ix2 b e) = RouterMath.soft (Layer.logit x r b) e := by
  have h : val_main_v27 (F := Ideal) x r (ix2 b e)
      = Ideal.div (Ideal.exp (Layer.logit x r b e - max (Ideal.ofBits .f32 0xFF800000#32)
            (Finset.univ.fold max (Ideal.ofBits .f32 0xFF800000#32) (Layer.logit x r b))))
          (∑ j, Ideal.exp (Layer.logit x r b j - max (Ideal.ofBits .f32 0xFF800000#32)
            (Finset.univ.fold max (Ideal.ofBits .f32 0xFF800000#32) (Layer.logit x r b)))) := by
    unfold Layer.logit
    pointwise [val_main_v27, val_main_v26, val_main_v25, val_main_v24, val_main_v23, val_main_v22, val_main_v21, val_main_v20,
      val_main_v19, val_main_v18, val_main_v17, val_main_v16, val_main_v15, val_main_cst_1, val_main_cst_2, val_main_cst_3]
  rw [h, Layer.negInf, (Layer.isFirst_best _).fold_max, max_eq_right bot_le]
  rfl

/-- A chosen value divided by the sum of the two. -/
theorem value_apply (b : Fin 64) (k : Fin 2) :
    val_main_v31 (F := Ideal) x r (ix2 b k)
      = Ideal.div (val_main_values (F := Ideal) x r (ix2 b k))
          (val_main_values (F := Ideal) x r (ix2 b 0) + val_main_values (F := Ideal) x r (ix2 b 1)) := by
  rw [← Fin.sum_univ_two fun j => val_main_values (F := Ideal) x r (ix2 b j)]
  pointwise [val_main_v31, val_main_v30, val_main_v29, val_main_v28, val_main_cst_4]

/-- The weight of expert `e`: the chosen values whose position is `e`. -/
theorem combine_apply (b : Fin 64) (e : Fin 16) :
    val_main_v36 (F := Ideal) x r (ix2 b e)
      = ∑ k : Fin 2, FloatOps.uitofp (F := Ideal) .f32 (IntOp.cmpi .eq (val_main_indices (F := Ideal) x r (ix2 b k)) (BitVec.ofNat 32 e.val))
          * val_main_v31 (F := Ideal) x r (ix2 b k) := by
  pointwise [val_main_v36, val_main_v35, val_main_v34, val_main_v33, val_main_v32, val_main_call1_v4, val_main_call1_v3,
    val_main_call1_v2, val_main_call1_v1, val_main_call1_v0, val_main_cst_5]

/-- A position's word compared with another's, as a number: 1 where they are equal and 0 elsewhere. -/
theorem onehot (i j : Fin 16) :
    (FloatOps.uitofp (F := Ideal) .f32 (IntOp.cmpi .eq (BitVec.ofNat 32 i.val) (BitVec.ofNat 32 j.val)) : EReal)
      = if j = i then 1 else 0 := by
  have h : IntOp.cmpi .eq (BitVec.ofNat 32 i.val) (BitVec.ofNat 32 j.val) = if j = i then 1#1 else 0#1 := by
    revert i j; decide
  rw [h]
  show (((if j = i then 1#1 else 0#1 : BitVec 1).toNat : ℝ) : EReal) = _
  split_ifs <;> simp

/-- Over finite scores the weight of expert `e` is its share. -/
theorem combine_eq (b : Fin 64) (e : Fin 16) {t : Fin 16 → ℝ} (hl : ∀ e, Layer.logit x r b e = (t e : EReal)) :
    val_main_v36 (F := Ideal) x r (ix2 b e) = Layer.share (Layer.logit x r b) e := by
  have hs : (fun e => val_main_v27 (F := Ideal) x r (ix2 b e)) = RouterMath.soft (Layer.logit x r b) :=
    funext fun e => soft_apply x r b e
  have hq := RouterMath.isSecond_soft hl
  have h := topK_apply (val_main_v27 (F := Ideal) x r) b (hs ▸ RouterMath.isFirst_soft hl) (hs ▸ hq)
  have hv : ∀ k, val_main_values (F := Ideal) x r (ix2 b k)
      = RouterMath.soft (Layer.logit x r b) ((![Layer.best (Layer.logit x r b), Layer.runnerUp (Layer.logit x r b)] : Fin 2 → Fin 16) k) :=
    fun k => (h k).1.trans (soft_apply x r b _)
  have hi : ∀ k, val_main_indices (F := Ideal) x r (ix2 b k)
      = BitVec.ofNat 32 ((![Layer.best (Layer.logit x r b), Layer.runnerUp (Layer.logit x r b)] : Fin 2 → Fin 16) k).val :=
    fun k => (h k).2
  rw [combine_apply, Fin.sum_univ_two, value_apply, value_apply, hi, hi, hv, hv, onehot, onehot]
  show (if e = Layer.best (Layer.logit x r b) then (1 : EReal) else 0)
        * Ideal.div (RouterMath.soft (Layer.logit x r b) (Layer.best (Layer.logit x r b)))
            (RouterMath.soft (Layer.logit x r b) (Layer.best (Layer.logit x r b))
              + RouterMath.soft (Layer.logit x r b) (Layer.runnerUp (Layer.logit x r b)))
      + (if e = Layer.runnerUp (Layer.logit x r b) then (1 : EReal) else 0)
        * Ideal.div (RouterMath.soft (Layer.logit x r b) (Layer.runnerUp (Layer.logit x r b)))
            (RouterMath.soft (Layer.logit x r b) (Layer.best (Layer.logit x r b))
              + RouterMath.soft (Layer.logit x r b) (Layer.runnerUp (Layer.logit x r b))) = _
  rw [RouterMath.soft_div hl]
  rw [add_comm (RouterMath.soft (Layer.logit x r b) (Layer.best (Layer.logit x r b))), RouterMath.soft_div hl]
  unfold Layer.share
  by_cases h1 : e = Layer.best (Layer.logit x r b)
  · have h2 : e ≠ Layer.runnerUp (Layer.logit x r b) := fun h => hq.1 (h.symm.trans h1)
    rw [if_pos h1, if_neg h2, if_pos h1, one_mul, zero_mul, add_zero]
  · rw [if_neg h1, if_neg h1, zero_mul, zero_add]
    split_ifs <;> simp

end Cert.ReferenceRouter

end
-- ==== Proof.Finite.lean ====
/-
  What the precondition says: every entry of the tokens and of the router's matrix is a real number, and with them every
  score of the router.
-/
module

public import proofs.«01_k».proof.Proof.Gen.Pre_routing_inputs_finite
public import proofs.«01_k».proof.Proof.RouterMath
public import Idealize.ShloMosaic.Lib.Pointwise

@[expose] public section

set_option maxRecDepth 16384

noncomputable section

namespace Cert.Finite

open Idealize.ShloMosaic

/-- An extended real whose absolute value is below +∞ is a real number. -/
theorem real_of_abs_lt {v : EReal} (h : max v (-v) < ⊤) : ∃ a : ℝ, v = (a : EReal) := by
  induction v with
  | bot => simp at h
  | top => simp at h
  | coe a => exact ⟨a, rfl⟩

/-- The comparison of absolute values with +∞ that the precondition makes. -/
theorem real_of_cmp {v : EReal} (h : Ideal.cmp .olt (max v (-v)) (Ideal.ofBits .f32 0x7F800000#32) = 1#1) :
    ∃ a : ℝ, v = (a : EReal) := by
  rw [Layer.posInf] at h
  refine real_of_abs_lt ?_
  by_contra hn
  simp [Ideal.cmp, hn] at h

open Cert.Pre_routing_inputs_finite in
/-- Under the precondition the tokens and the router's matrix are real. -/
theorem real_of_pre {x : FVec Ideal S64x1024 .f32} {r : FVec Ideal S16x1024 .f32} {s : FVec Ideal S1x1024 .f32}
    {g u : FVec Ideal S16x1024x1408 .f32} {dn : FVec Ideal S16x1408x1024 .f32} {sg su : FVec Ideal S1x1024x1408 .f32}
    {sdn : FVec Ideal S1x1408x1024 .f32} (h1 : (fn (F := Ideal) x r s g u dn sg su sdn).1 = fun _ => 1#1)
    (h2 : (fn (F := Ideal) x r s g u dn sg su sdn).2 = fun _ => 1#1) :
    (∀ i, ∃ a : ℝ, x i = (a : EReal)) ∧ ∀ i, ∃ a : ℝ, r i = (a : EReal) :=
  ⟨fun i => real_of_cmp (congrFun h1 i), fun i => real_of_cmp (congrFun h2 i)⟩

/-- The scores of real tokens by a real router's matrix are real. -/
theorem logit_real {x : Layer.Mat 64 1024} {r : Layer.Mat 16 1024} (hx : ∀ i, ∃ a : ℝ, x i = (a : EReal))
    (hr : ∀ i, ∃ a : ℝ, r i = (a : EReal)) (b : Fin 64) : ∃ t : Fin 16 → ℝ, ∀ e, Layer.logit x r b e = (t e : EReal) := by
  choose y hy using hx
  choose q hq using hr
  refine ⟨fun e => ∑ k, y (ix2 b k) * q (ix2 e k), fun e => ?_⟩
  unfold Layer.logit
  rw [← RouterMath.coe_sum]
  exact Finset.sum_congr rfl fun k _ => by rw [hy, hq, EReal.coe_mul]

end Cert.Finite

end
-- ==== Proof.Equation.lean ====
/-
  The equation: over real tokens and a real router's matrix the kernel's result is the reference's. The kernel multiplies
  each expert's hidden vector by the weight and the scale before the last product and adds the experts one after the
  other; the reference weights the outputs, adds them and scales the sum. The weights and the scale are neither negative
  nor infinite, so they pass through the sums whatever the experts' matrices hold.
-/
module

public import proofs.«01_k».proof.Proof.KernelArray
public import proofs.«01_k».proof.Proof.ReferenceExperts
public import proofs.«01_k».proof.Proof.ReferenceRouter
public import proofs.«01_k».proof.Proof.Finite

@[expose] public section

set_option maxRecDepth 16384

noncomputable section

open Idealize.ShloMosaic Idealize.ShloMosaic.TcCoe Idealize.SL.Sem

namespace Cert.Equation

/-- Weighting the hidden vectors by the scaled weights is scaling the weighted outputs' sum. -/
theorem scaled_sum (l : Fin 16 → EReal) (z : EReal) (x : Layer.Mat 64 1024) (g u : Layer.Stack 16 1024 1408)
    (dn : Layer.Stack 16 1408 1024) (sg su : Layer.Stack 1 1024 1408) (sdn : Layer.Stack 1 1408 1024) (b : Fin 64)
    (d : Fin 1024) :
    ∑ e : Fin 16, Layer.weighted x g u dn (Layer.share l e * Layer.scale) e b d
        + Layer.weighted x sg su sdn (Ideal.logistic z * Layer.scale) 0 b d
      = (∑ e : Fin 16, Layer.share l e * Layer.expert x g u dn e b d
          + Ideal.logistic z * Layer.expert x sg su sdn 0 b d) * Layer.scale := by
  have h0 := Layer.scale_nonneg
  have ht := Layer.scale_ne_top
  rw [mul_comm (_ + _) Layer.scale, EReal.left_distrib_of_nonneg_of_ne_top h0 ht, Layer.mul_sum_of_weight _ _ h0 ht]
  congr 1
  · refine Finset.sum_congr rfl fun e _ => ?_
    have s0 := Layer.share_nonneg l e
    rw [Layer.weighted_eq x g u dn (mul_nonneg s0 h0) (Layer.mul_ne_top s0 (Layer.share_ne_top l e) h0 ht),
      mul_comm (Layer.share l e), mul_assoc]
  · have s0 := Layer.logistic_nonneg z
    rw [Layer.weighted_eq x sg su sdn (mul_nonneg s0 h0) (Layer.mul_ne_top s0 (Layer.logistic_ne_top z) h0 ht),
      mul_comm (Ideal.logistic z), mul_assoc]

open Cert.KernelIdeal in
/-- Over real tokens and a real router's matrix the kernel's result array is the reference's result of the same
    arguments. -/
theorem kernel_eq_reference (m : (ℓ : Loc nD τ sig) → Buf (Elt Ideal) ℓ) (c : Dev nD)
    (hx : ∀ i, ∃ a : ℝ, m ((c : Thread nD τ).loc main_arg0) i = (a : EReal))
    (hr : ∀ i, ∃ a : ℝ, m ((c : Thread nD τ).loc main_arg1) i = (a : EReal)) :
    Value.G8 m c = Cert.ReferenceIdeal.Read.val_main_v49 (F := Ideal)
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) := by
  funext i
  obtain ⟨b, d, rfl⟩ : ∃ b d, i = ix2 b d := ⟨_, _, eq_ix2 i⟩
  obtain ⟨t, ht⟩ := Finite.logit_real (x := KernelArray.hid m c) (r := KernelArray.router m c) hx hr b
  rw [KernelArray.array_value m c b d fun e => by rw [ht]; exact EReal.bot_lt_coe _, scaled_sum]
  rw [ReferenceExperts.result_apply]
  simp only [ReferenceRouter.combine_eq _ _ b _ ht]

end Cert.Equation

end
-- ==== Proof.lean ====
/-
  The proof of the certificate's claim. The frames are the generated runs, weakened; the kernel and its idealized form are
  the same operations, so `preserves` is trivial; the value claim puts the kernel's run and the reference's side by side
  and takes the equation of their results from `Cert.Equation`.
-/
module

public import proofs.«01_k».proof.Defs
public import proofs.«01_k».proof.Proof.Gen.Kernel.Frame
public import proofs.«01_k».proof.Proof.Gen.KernelIdeal.Value
public import proofs.«01_k».proof.Proof.Gen.Pre_routing_inputs_finite
public import proofs.«01_k».proof.Proof.Gen.ReferenceIdeal.Run
public import proofs.«01_k».proof.Proof.Gen.ReferenceIdeal.Read
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem

/-- The reference ends, keeps its arguments and leaves every counter at zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- So it does under the precondition. -/
theorem quiescent_ReferenceIdeal_pre_routing_inputs_finite : quiescent_ReferenceIdeal_pre_routing_inputs_finite :=
  fun m ρ _ => quiescent_ReferenceIdeal m ρ trivial

/-- Over real tokens and a real router's matrix the idealized kernel and the reference leave the same result. -/
theorem algebraic_KernelIdeal_ReferenceIdeal_pre_routing_inputs_finite :
    algebraic_KernelIdeal_ReferenceIdeal_pre_routing_inputs_finite := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨hx, hr⟩ := Cert.Finite.real_of_pre (hpre c).1 (hpre c).2
  obtain ⟨a0, a1, a2, a3, a4, a5, a6, a7, a8⟩ := hagree c
  rw [(h c).1, Cert.ReferenceIdeal.Read.val_main_v49_eq, a0, a1, a2, a3, a4, a5, a6, a7, a8]
  exact (Cert.Equation.kernel_eq_reference m c hx hr).symm

theorem claim : Cert.Claim := ⟨Cert.Kernel.Gen.facts, Cert.KernelIdeal.Gen.facts, Cert.ReferenceIdeal.Gen.facts, Cert.Pre_routing_inputs_finite.Gen.facts,
  fun m ρ _ => Cert.Kernel.Gen.frame m ρ, fun m ρ _ => Cert.KernelIdeal.Gen.frame m ρ, fun m ρ _ => Cert.KernelIdeal.Gen.frame m ρ,
  quiescent_ReferenceIdeal, quiescent_ReferenceIdeal_pre_routing_inputs_finite, (trivial : preserves_Kernel_KernelIdeal),
  algebraic_KernelIdeal_ReferenceIdeal_pre_routing_inputs_finite⟩

end Cert.Proof

end
